-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x256x3x32 : Shape := ⟨4, ![128, 256, 3, 32]⟩
abbrev S32x12x3 : Shape := ⟨3, ![32, 12, 3]⟩
abbrev S32x12 : Shape := ⟨2, ![32, 12]⟩
abbrev S128 : Shape := ⟨1, ![128]⟩
abbrev S_ : Shape := ⟨0, ![]⟩
abbrev S128x1 : Shape := ⟨2, ![128, 1]⟩
abbrev S128x12x3 : Shape := ⟨3, ![128, 12, 3]⟩
abbrev S128x12 : Shape := ⟨2, ![128, 12]⟩
abbrev S3 : Shape := ⟨1, ![3]⟩
abbrev S1x3 : Shape := ⟨2, ![1, 3]⟩
abbrev S128x3 : Shape := ⟨2, ![128, 3]⟩
abbrev S128x3x1 : Shape := ⟨3, ![128, 3, 1]⟩
abbrev S1 : Shape := ⟨1, ![1]⟩
abbrev S1x1x1 : Shape := ⟨3, ![1, 1, 1]⟩
abbrev S128x3x3 : Shape := ⟨3, ![128, 3, 3]⟩
abbrev S32 : Shape := ⟨1, ![32]⟩
abbrev S1x32 : Shape := ⟨2, ![1, 32]⟩
abbrev S128x32 : Shape := ⟨2, ![128, 32]⟩
abbrev S128x3x3x1 : Shape := ⟨4, ![128, 3, 3, 1]⟩
abbrev S128x1x1x32 : Shape := ⟨4, ![128, 1, 1, 32]⟩
abbrev S128x3x3x32 : Shape := ⟨4, ![128, 3, 3, 32]⟩
abbrev S3x32x3x128 : Shape := ⟨4, ![3, 32, 3, 128]⟩
abbrev S96x384 : Shape := ⟨2, ![96, 384]⟩
abbrev S3x128 : Shape := ⟨2, ![3, 128]⟩
abbrev S1x384 : Shape := ⟨2, ![1, 384]⟩
abbrev S32768x96 : Shape := ⟨2, ![32768, 96]⟩
abbrev S128x256x3x128 : Shape := ⟨4, ![128, 256, 3, 128]⟩
abbrev S8192x96 : Shape := ⟨2, ![8192, 96]⟩
abbrev S32x256x3x128 : Shape := ⟨4, ![32, 256, 3, 128]⟩
abbrev S8192x384 : Shape := ⟨2, ![8192, 384]⟩

abbrev nBuf : Space → Nat
  | .hbm => 134
  | .vmem => 6
  | .smem => 0
  | _ => 0

abbrev hbmTy0_0 (i : Nat) : BufTy := match i % 128 with
  | 0 => ⟨S128x256x3x32, .f32⟩
  | 1 => ⟨S32x12x3, .f32⟩
  | 2 => ⟨S32x12, .f32⟩
  | 3 => ⟨S128, .i32⟩
  | 4 => ⟨S_, .i32⟩
  | 5 => ⟨S_, .i32⟩
  | 6 => ⟨S128, .i32⟩
  | 7 => ⟨S128, .i32⟩
  | 8 => ⟨S128, .i32⟩
  | 9 => ⟨S_, .i32⟩
  | 10 => ⟨S128, .i32⟩
  | 11 => ⟨S128, .i1⟩
  | 12 => ⟨S128, .i32⟩
  | 13 => ⟨S128, .i32⟩
  | 14 => ⟨S_, .i32⟩
  | 15 => ⟨S128, .i32⟩
  | 16 => ⟨S128, .i1⟩
  | 17 => ⟨S128, .i1⟩
  | 18 => ⟨S_, .i32⟩
  | 19 => ⟨S128, .i32⟩
  | 20 => ⟨S128, .i32⟩
  | 21 => ⟨S128, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S128, .i32⟩
  | 29 => ⟨S128, .i32⟩
  | 30 => ⟨S_, .i32⟩
  | 31 => ⟨S128, .i32⟩
  | 32 => ⟨S128, .i1⟩
  | 33 => ⟨S_, .i32⟩
  | 34 => ⟨S128, .i32⟩
  | 35 => ⟨S128, .i1⟩
  | 36 => ⟨S_, .i32⟩
  | 37 => ⟨S_, .i1⟩
  | 38 => ⟨S128, .i1⟩
  | 39 => ⟨S128, .i1⟩
  | 40 => ⟨S128, .i1⟩
  | 41 => ⟨S128, .i32⟩
  | 42 => ⟨S128, .i32⟩
  | 43 => ⟨S128, .i32⟩
  | 44 => ⟨S_, .i32⟩
  | 45 => ⟨S128, .i32⟩
  | 46 => ⟨S128, .i1⟩
  | 47 => ⟨S_, .i32⟩
  | 48 => ⟨S128, .i32⟩
  | 49 => ⟨S128, .i32⟩
  | 50 => ⟨S128, .i32⟩
  | 51 => ⟨S128x1, .i32⟩
  | 52 => ⟨S128x12x3, .f32⟩
  | 53 => ⟨S_, .i32⟩
  | 54 => ⟨S128, .i32⟩
  | 55 => ⟨S128, .i1⟩
  | 56 => ⟨S_, .i32⟩
  | 57 => ⟨S128, .i32⟩
  | 58 => ⟨S128, .i32⟩
  | 59 => ⟨S128, .i32⟩
  | 60 => ⟨S128x1, .i32⟩
  | 61 => ⟨S128x12, .f32⟩
  | 62 => ⟨S3, .i32⟩
  | 63 => ⟨S1x3, .i32⟩
  | 64 => ⟨S_, .i32⟩
  | 65 => ⟨S1x3, .i32⟩
  | 66 => ⟨S1x3, .i32⟩
  | 67 => ⟨S128x1, .i32⟩
  | 68 => ⟨S128x3, .i32⟩
  | 69 => ⟨S128x3, .i32⟩
  | 70 => ⟨S128x3, .i32⟩
  | 71 => ⟨S128x3x1, .i32⟩
  | 72 => ⟨S_, .i32⟩
  | 73 => ⟨S128x3x1, .i32⟩
  | 74 => ⟨S128x3x1, .i1⟩
  | 75 => ⟨S_, .i32⟩
  | 76 => ⟨S128x3x1, .i32⟩
  | 77 => ⟨S128x3x1, .i32⟩
  | 78 => ⟨S128x3x1, .i32⟩
  | 79 => ⟨S1, .i32⟩
  | 80 => ⟨S_, .i32⟩
  | 81 => ⟨S128x3x1, .i32⟩
  | 82 => ⟨S128x3x1, .i1⟩
  | 83 => ⟨S1x1x1, .i32⟩
  | 84 => ⟨S128x3x1, .i32⟩
  | 85 => ⟨S128x3x1, .i1⟩
  | 86 => ⟨S128x3x1, .i1⟩
  | 87 => ⟨S_, .i1⟩
  | 88 => ⟨S128x3, .i1⟩
  | 89 => ⟨S128x3x3, .f32⟩
  | 90 => ⟨S128x3x3, .i1⟩
  | 91 => ⟨S_, .f32⟩
  | 92 => ⟨S128x3x3, .f32⟩
  | 93 => ⟨S128x3x3, .f32⟩
  | 94 => ⟨S_, .i32⟩
  | 95 => ⟨S128x3, .i32⟩
  | 96 => ⟨S128x3, .i1⟩
  | 97 => ⟨S_, .i32⟩
  | 98 => ⟨S128x3, .i32⟩
  | 99 => ⟨S128x3, .i32⟩
  | 100 => ⟨S128x3, .i32⟩
  | 101 => ⟨S128x3x1, .i32⟩
  | 102 => ⟨S1, .i32⟩
  | 103 => ⟨S_, .i32⟩
  | 104 => ⟨S128x3x1, .i32⟩
  | 105 => ⟨S128x3x1, .i1⟩
  | 106 => ⟨S1x1x1, .i32⟩
  | 107 => ⟨S128x3x1, .i32⟩
  | 108 => ⟨S128x3x1, .i1⟩
  | 109 => ⟨S128x3x1, .i1⟩
  | 110 => ⟨S_, .i1⟩
  | 111 => ⟨S128x3, .i1⟩
  | 112 => ⟨S128x3, .f32⟩
  | 113 => ⟨S_, .f32⟩
  | 114 => ⟨S128x3, .f32⟩
  | 115 => ⟨S128x3, .f32⟩
  | 116 => ⟨S128x1, .i32⟩
  | 117 => ⟨S32, .i32⟩
  | 118 => ⟨S1x32, .i32⟩
  | 119 => ⟨S128x32, .i32⟩
  | 120 => ⟨S128x32, .i32⟩
  | 121 => ⟨S128x32, .i1⟩
  | 122 => ⟨S128x32, .f32⟩
  | 123 => ⟨S128x3x3x1, .f32⟩
  | 124 => ⟨S128x1x1x32, .f32⟩
  | 125 => ⟨S128x3x3x32, .f32⟩
  | 126 => ⟨S128x3x3x32, .f32⟩
  | 127 => ⟨S128x3x3x32, .f32⟩
  | _ => ⟨S128x256x3x32, .f32⟩

abbrev hbmTy0_1 (i : Nat) : BufTy := match i % 128 with
  | 0 => ⟨S3x32x3x128, .f32⟩
  | 1 => ⟨S96x384, .f32⟩
  | 2 => ⟨S3x128, .f32⟩
  | 3 => ⟨S1x384, .f32⟩
  | 4 => ⟨S32768x96, .f32⟩
  | 5 => ⟨S128x256x3x128, .f32⟩
  | _ => ⟨S128x256x3x32, .f32⟩

abbrev hbmTy (i : Nat) : BufTy := match i / 128 with
  | 0 => hbmTy0_0 i
  | 1 => hbmTy0_1 i
  | _ => ⟨S128x256x3x32, .f32⟩

abbrev bufTy : (tb : Table) → Fin (tcTables nBuf tb) → BufTy
  | .hbm, ⟨i, _⟩ => hbmTy i
  | .local _ .vmem, ⟨0, _⟩ => ⟨S8192x96, .f32⟩
  | .local _ .vmem, ⟨1, _⟩ => ⟨S8192x96, .f32⟩
  | .local _ .vmem, ⟨2, _⟩ => ⟨S96x384, .f32⟩
  | .local _ .vmem, ⟨3, _⟩ => ⟨S1x384, .f32⟩
  | .local _ .vmem, ⟨4, _⟩ => ⟨S32x256x3x128, .f32⟩
  | .local _ .vmem, ⟨5, _⟩ => ⟨S32x256x3x128, .f32⟩
  | _, _ => ⟨S128x256x3x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v0 : Ref sig .tc := ⟨.hbm, 21, rfl⟩
abbrev main_c_1 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v1 : Ref sig .tc := ⟨.hbm, 43, rfl⟩
abbrev main_c_2 : Ref sig .tc := ⟨.hbm, 44, rfl⟩
abbrev main_v2 : Ref sig .tc := ⟨.hbm, 45, rfl⟩
abbrev main_v3 : Ref sig .tc := ⟨.hbm, 46, rfl⟩
abbrev main_c_3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_c_4 : Ref sig .tc := ⟨.hbm, 53, rfl⟩
abbrev main_v9 : Ref sig .tc := ⟨.hbm, 54, rfl⟩
abbrev main_v10 : Ref sig .tc := ⟨.hbm, 55, rfl⟩
abbrev main_c_5 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_c_6 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_c_1 : Ref sig .tc := ⟨.hbm, 79, rfl⟩
abbrev main_call2_c_2 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_c_3 : Ref sig .tc := ⟨.hbm, 87, rfl⟩
abbrev main_call2_v11 : Ref sig .tc := ⟨.hbm, 88, rfl⟩
abbrev main_call2_v12 : Ref sig .tc := ⟨.hbm, 89, rfl⟩
abbrev main_call2_v13 : Ref sig .tc := ⟨.hbm, 90, rfl⟩
abbrev main_call2_cst : Ref sig .tc := ⟨.hbm, 91, rfl⟩
abbrev main_call2_v14 : Ref sig .tc := ⟨.hbm, 92, rfl⟩
abbrev main_v25 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_c_1 : Ref sig .tc := ⟨.hbm, 102, rfl⟩
abbrev main_call3_c_2 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_3 : Ref sig .tc := ⟨.hbm, 110, rfl⟩
abbrev main_call3_v12 : Ref sig .tc := ⟨.hbm, 111, rfl⟩
abbrev main_call3_v13 : Ref sig .tc := ⟨.hbm, 112, rfl⟩
abbrev main_call3_cst : Ref sig .tc := ⟨.hbm, 113, rfl⟩
abbrev main_call3_v14 : Ref sig .tc := ⟨.hbm, 114, rfl⟩
abbrev main_v26 : Ref sig .tc := ⟨.hbm, 115, rfl⟩
abbrev main_v27 : Ref sig .tc := ⟨.hbm, 116, rfl⟩
abbrev main_v28 : Ref sig .tc := ⟨.hbm, 117, rfl⟩
abbrev main_v29 : Ref sig .tc := ⟨.hbm, 118, rfl⟩
abbrev main_v30 : Ref sig .tc := ⟨.hbm, 119, rfl⟩
abbrev main_v31 : Ref sig .tc := ⟨.hbm, 120, rfl⟩
abbrev main_v32 : Ref sig .tc := ⟨.hbm, 121, rfl⟩
abbrev main_v33 : Ref sig .tc := ⟨.hbm, 122, rfl⟩
abbrev main_v34 : Ref sig .tc := ⟨.hbm, 123, rfl⟩
abbrev main_v35 : Ref sig .tc := ⟨.hbm, 124, rfl⟩
abbrev main_v36 : Ref sig .tc := ⟨.hbm, 125, rfl⟩
abbrev main_v37 : Ref sig .tc := ⟨.hbm, 126, rfl⟩
abbrev main_v38 : Ref sig .tc := ⟨.hbm, 127, rfl⟩
abbrev main_v39 : Ref sig .tc := ⟨.hbm, 128, rfl⟩
abbrev main_v40 : Ref sig .tc := ⟨.hbm, 129, rfl⟩
abbrev main_v41 : Ref sig .tc := ⟨.hbm, 130, rfl⟩
abbrev main_v42 : Ref sig .tc := ⟨.hbm, 131, rfl⟩
abbrev main_v43 : Ref sig .tc := ⟨.hbm, 132, rfl⟩
abbrev main_v44 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8192x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x256x3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S128x256x3x32 : Shape := ⟨4, ![128, 256, 3, 32]⟩
abbrev S32x12x3 : Shape := ⟨3, ![32, 12, 3]⟩
abbrev S32x12 : Shape := ⟨2, ![32, 12]⟩
abbrev S32x128x256x3 : Shape := ⟨4, ![32, 128, 256, 3]⟩
abbrev S32x32768x3 : Shape := ⟨3, ![32, 32768, 3]⟩
abbrev S32x32768x12 : Shape := ⟨3, ![32, 32768, 12]⟩
abbrev S32x1x12 : Shape := ⟨3, ![32, 1, 12]⟩
abbrev S32x32768x3x4 : Shape := ⟨4, ![32, 32768, 3, 4]⟩
abbrev S32768x3x32x4 : Shape := ⟨4, ![32768, 3, 32, 4]⟩
abbrev S128x256x3x128 : Shape := ⟨4, ![128, 256, 3, 128]⟩
abbrev S_ : Shape := ⟨0, ![]⟩
abbrev S128x256x3x1 : Shape := ⟨4, ![128, 256, 3, 1]⟩

abbrev nBuf : Space → Nat
  | .hbm => 47
  | .vmem => 0
  | .smem => 0
  | _ => 0

abbrev bufTy : (tb : Table) → Fin (tcTables nBuf tb) → BufTy
  | .hbm, ⟨0, _⟩ => ⟨S128x256x3x32, .f32⟩
  | .hbm, ⟨1, _⟩ => ⟨S32x12x3, .f32⟩
  | .hbm, ⟨2, _⟩ => ⟨S32x12, .f32⟩
  | .hbm, ⟨3, _⟩ => ⟨S32x128x256x3, .f32⟩
  | .hbm, ⟨4, _⟩ => ⟨S32x32768x3, .f32⟩
  | .hbm, ⟨5, _⟩ => ⟨S32x32768x12, .f32⟩
  | .hbm, ⟨6, _⟩ => ⟨S32x1x12, .f32⟩
  | .hbm, ⟨7, _⟩ => ⟨S32x32768x12, .f32⟩
  | .hbm, ⟨8, _⟩ => ⟨S32x32768x12, .f32⟩
  | .hbm, ⟨9, _⟩ => ⟨S32x32768x3x4, .f32⟩
  | .hbm, ⟨10, _⟩ => ⟨S32768x3x32x4, .f32⟩
  | .hbm, ⟨11, _⟩ => ⟨S128x256x3x128, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S128x256x3x128, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S128x256x3x1, .f32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S128x256x3x128, .f32⟩
  | .hbm, ⟨45, _⟩ => ⟨S_, .i32⟩
  | .hbm, ⟨46, _⟩ => ⟨S_, .i32⟩
  | _, _ => ⟨S128x256x3x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_c_0 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_while0c_c_3 : Ref sig .tc := ⟨.hbm, 17, rfl⟩
abbrev main_while0c_v10 : Ref sig .tc := ⟨.hbm, 18, rfl⟩
abbrev main_while0b_c_3 : Ref sig .tc := ⟨.hbm, 19, rfl⟩
abbrev main_while0b_v10 : Ref sig .tc := ⟨.hbm, 20, rfl⟩
abbrev main_while0b_c_4 : Ref sig .tc := ⟨.hbm, 21, rfl⟩
abbrev main_while0b_v11 : Ref sig .tc := ⟨.hbm, 22, rfl⟩
abbrev main_while0b_v12 : Ref sig .tc := ⟨.hbm, 23, rfl⟩
abbrev main_while0b_c_5 : Ref sig .tc := ⟨.hbm, 24, rfl⟩
abbrev main_while0b_v13 : Ref sig .tc := ⟨.hbm, 25, rfl⟩
abbrev main_while0b_v14 : Ref sig .tc := ⟨.hbm, 26, rfl⟩
abbrev main_while0b_c_6 : Ref sig .tc := ⟨.hbm, 27, rfl⟩
abbrev main_while0b_c_7 : Ref sig .tc := ⟨.hbm, 28, rfl⟩
abbrev main_while0b_c_8 : Ref sig .tc := ⟨.hbm, 29, rfl⟩
abbrev main_while0b_v15 : Ref sig .tc := ⟨.hbm, 30, rfl⟩
abbrev main_while0b_c_9 : Ref sig .tc := ⟨.hbm, 31, rfl⟩
abbrev main_while0b_v16 : Ref sig .tc := ⟨.hbm, 32, rfl⟩
abbrev main_while0b_c_10 : Ref sig .tc := ⟨.hbm, 33, rfl⟩
abbrev main_while0b_v17 : Ref sig .tc := ⟨.hbm, 34, rfl⟩
abbrev main_while0b_c_11 : Ref sig .tc := ⟨.hbm, 35, rfl⟩
abbrev main_while0b_v18 : Ref sig .tc := ⟨.hbm, 36, rfl⟩
abbrev main_while0b_v19 : Ref sig .tc := ⟨.hbm, 37, rfl⟩
abbrev main_while0b_c_12 : Ref sig .tc := ⟨.hbm, 38, rfl⟩
abbrev main_while0b_v20 : Ref sig .tc := ⟨.hbm, 39, rfl⟩
abbrev main_while0b_v21 : Ref sig .tc := ⟨.hbm, 40, rfl⟩
abbrev main_while0b_c_13 : Ref sig .tc := ⟨.hbm, 41, rfl⟩
abbrev main_while0b_c_14 : Ref sig .tc := ⟨.hbm, 42, rfl⟩
abbrev main_while0b_c_15 : Ref sig .tc := ⟨.hbm, 43, rfl⟩
abbrev main_while0b_v22 : Ref sig .tc := ⟨.hbm, 44, rfl⟩
abbrev main_while0b_c_16 : Ref sig .tc := ⟨.hbm, 45, rfl⟩
abbrev main_while0b_v23 : Ref sig .tc := ⟨.hbm, 46, rfl⟩

abbrev nD : Nat := 1
abbrev τ : Topo := Topo.v7x

variable {F : FTy → Type} [FloatOps F]

abbrev main_while0_count : Scf.Loop 32 := ⟨0#32, 128#32, 1#32⟩
-- ==== Proof.RefAffine.lean ====
/-
  What the reference computes before its copying loop: the affine layer of each node, read at one element.
-/
module

public import proofs.«01_k».proof.Proof.Gen.ReferenceIdeal.Step
public import Idealize.ShloMosaic.Lib.Pointwise

@[expose] public section

set_option maxRecDepth 16384

noncomputable section

namespace Cert.RefAffine

open Idealize.ShloMosaic Idealize.ShloMosaic.Pointwise
open Cert.ReferenceIdeal Cert.ReferenceIdeal.Step

/-- The output channel of a node at channel group `c` and column `q`: the node has 12 channels, 3 groups of 4. -/
def channel (c : Fin 3) (q : Fin 128) : Fin 12 := ⟨c.val * 4 + q.val % 4, by omega⟩

/-- The node that column `q` belongs to: 4 columns each. -/
def node (q : Fin 128) : Fin 32 := ⟨q.val / 4, by omega⟩

/-- The affine layer at batch `n`, feature `f`, channel group `c` and column `q`: the node's weights against its three
    input entries, plus its bias. -/
def affine (x : FVec Ideal S128x256x3x32 .f32) (w : FVec Ideal S32x12x3 .f32) (b : FVec Ideal S32x12 .f32)
    (n : Fin 128) (f : Fin 256) (c : Fin 3) (q : Fin 128) : EReal :=
  (∑ d : Fin 3, x (ix4 n f d (node q)) * w (ix3 (node q) (channel c q) d)) + b (ix2 (node q) (channel c q))

/-- The array that the reference's loop starts from holds the affine layer. -/
theorem A_main_v8_apply (x : FVec Ideal S128x256x3x32 .f32) (w : FVec Ideal S32x12x3 .f32) (b : FVec Ideal S32x12 .f32)
    (n : Fin 128) (f : Fin 256) (c : Fin 3) (q : Fin 128) :
    A_main_v8 (F := Ideal) x w b (ix4 n f c q) = affine x w b n f c q := by
  pointwise [A_main_v8, A_main_v7, A_main_v6, A_main_v5, A_main_v4, A_main_v3, A_main_v2, A_main_v1, A_main_v0, affine, node, channel]

end Cert.RefAffine
-- ==== Proof.Columns.lean ====
/-
  The columns that the reference's copying loop moves.

  The loop runs over an array of 128 columns and copies, at step `k`, the column `k` that the array holds at that moment
  into column `37 * k % 128`. So after any number of steps each column holds some column of the array before the loop.
  This module says which one (`source`), and nothing of the arrays themselves.
-/
module

public import Mathlib.Data.Nat.Basic
public import Mathlib.Tactic.Common

@[expose] public section

namespace Cert.Columns

/-- The column that step `k` writes. -/
def target (k : ℕ) : ℕ := 37 * k % 128

/-- The column of the array before the loop that column `q` holds after the first `k` steps. -/
def source : ℕ → ℕ → ℕ
  | 0, q => q
  | k + 1, q => if q = target k then source k k else source k q

/-- Every step writes one of the 128 columns. -/
theorem target_lt (k : ℕ) : target k < 128 := Nat.mod_lt _ (by decide)

/-- A column of the array holds a column of the array, as long as the steps read columns of the array. -/
theorem source_lt : ∀ k q : ℕ, k ≤ 128 → q < 128 → source k q < 128
  | 0, _, _, hq => hq
  | k + 1, q, hk, hq => by
    unfold source
    split
    · exact source_lt k k (by omega) (by omega)
    · exact source_lt k q (by omega) hq

/-- The column that column `q` holds after the first `k` steps, as a column number. -/
def sourceCol (k : ℕ) (hk : k ≤ 128) (q : Fin 128) : Fin 128 := ⟨source k q.val, source_lt k q.val hk q.isLt⟩

/-- Before the first step every column holds itself. -/
theorem sourceCol_zero (q : Fin 128) : sourceCol 0 (by omega) q = q := rfl

/-- Step `k` changes the column that it writes and no other. -/
theorem sourceCol_succ (k : ℕ) (hk : k < 128) (q : Fin 128) :
    sourceCol (k + 1) (by omega) q
      = if q.val = target k then sourceCol k (by omega) ⟨k, hk⟩ else sourceCol k (by omega) q := by
  apply Fin.ext
  unfold sourceCol
  show source (k + 1) q.val = _
  rw [source]
  split <;> rfl

end Cert.Columns
-- ==== Proof.RefLoop.lean ====
/-
  What the reference's copying loop leaves: after `k` steps each column of the array holds the column `source k` of the
  array that the loop started from.
-/
module

public import proofs.«01_k».proof.Proof.RefAffine
public import proofs.«01_k».proof.Proof.Columns

@[expose] public section

set_option maxRecDepth 16384

noncomputable section

namespace Cert.RefLoop

open Idealize.ShloMosaic Idealize.ShloMosaic.Pointwise
open Cert.ReferenceIdeal Cert.ReferenceIdeal.Gen Cert.ReferenceIdeal.Step Cert.Columns

/-- A one-column slice taken at column `k` is that column. -/
theorem slice_column {α : Type} (y : S128x256x3x128.Idx → α) (st : Fin 4 → ℤ) (k : Fin 128)
    (h0 : st 0 = ((0 : ℕ) : ℤ)) (h1 : st 1 = ((0 : ℕ) : ℤ)) (h2 : st 2 = ((0 : ℕ) : ℤ)) (h3 : st 3 = (k.val : ℤ))
    (h : S128x256x3x128.Slices (fun _ => 0) S128x256x3x1) (n : Fin 128) (f : Fin 256) (c : Fin 3) :
    Host.dynamicSlice S128x256x3x1 y st h (ix4 n f c 0) = y (ix4 n f c k) := by
  have hk := k.isLt
  have e0 := Host.clampedStart_of_le (t := S128x256x3x1) (s := S128x256x3x128) rfl st 0 0 h0 (by decide)
  have e1 := Host.clampedStart_of_le (t := S128x256x3x1) (s := S128x256x3x128) rfl st 1 0 h1 (by decide)
  have e2 := Host.clampedStart_of_le (t := S128x256x3x1) (s := S128x256x3x128) rfl st 2 0 h2 (by decide)
  have e3 := Host.clampedStart_of_le (t := S128x256x3x1) (s := S128x256x3x128) rfl st 3 k h3 (show k.val + 1 ≤ 128 by omega)
  pointwise
  simp only [e0, e1, e2, e3, Nat.zero_add, Nat.add_zero]

/-- Writing one column at column `t` changes that column alone. -/
theorem update_column {α : Type} (y : S128x256x3x128.Idx → α) (u : S128x256x3x1.Idx → α) (st : Fin 4 → ℤ) (t : Fin 128)
    (h0 : st 0 = ((0 : ℕ) : ℤ)) (h1 : st 1 = ((0 : ℕ) : ℤ)) (h2 : st 2 = ((0 : ℕ) : ℤ)) (h3 : st 3 = (t.val : ℤ))
    (h : S128x256x3x128.Slices (fun _ => 0) S128x256x3x1) (n : Fin 128) (f : Fin 256) (c : Fin 3) (q : Fin 128) :
    Host.dynamicUpdateSlice y u st h (ix4 n f c q) = if q.val = t.val then u (ix4 n f c 0) else y (ix4 n f c q) := by
  have ht := t.isLt
  have e0 := Host.clampedStart_of_le (t := S128x256x3x1) (s := S128x256x3x128) rfl st 0 0 h0 (by decide)
  have e1 := Host.clampedStart_of_le (t := S128x256x3x1) (s := S128x256x3x128) rfl st 1 0 h1 (by decide)
  have e2 := Host.clampedStart_of_le (t := S128x256x3x1) (s := S128x256x3x128) rfl st 2 0 h2 (by decide)
  have e3 := Host.clampedStart_of_le (t := S128x256x3x1) (s := S128x256x3x128) rfl st 3 t h3 (show t.val + 1 ≤ 128 by omega)
  pointwise
  simp only [e0, e1, e2, e3, Nat.sub_zero, Nat.zero_add]
  by_cases hq : q.val = t.val
  · rw [dif_pos (by omega), if_pos hq]
    exact congrArg (fun z : Fin 1 => u (ix4 n f c z)) (Subsingleton.elim _ _)
  · rw [dif_neg (by omega), if_neg hq]

/-- The column that step `k` reads, as its index word has it after the wrap of negative indices. -/
theorem read_word : ∀ k : Fin 128,
    (Scalar.select (IntOp.cmpi .slt (BitVec.ofNat 32 k.val) 0#32) (IntOp.addi (BitVec.ofNat 32 k.val) 128#32)
      (BitVec.ofNat 32 k.val)).toInt = (k.val : ℤ) := by decide +kernel

/-- The column that step `k` writes, as its index word has it after the remainder and the wrap. -/
theorem write_word : ∀ k : Fin 128,
    (Scalar.select (IntOp.cmpi .slt (IntOp.remsi .host (IntOp.muli 37#32 (BitVec.ofNat 32 k.val)) 128#32) 0#32)
      (IntOp.addi (IntOp.remsi .host (IntOp.muli 37#32 (BitVec.ofNat 32 k.val)) 128#32) 128#32)
      (IntOp.remsi .host (IntOp.muli 37#32 (BitVec.ofNat 32 k.val)) 128#32)).toInt = ((target k.val : ℕ) : ℤ) := by
  decide +kernel

/-- One step copies the current column `k` into column `target k`. -/
theorem b25_apply (k : ℕ) (hk : k < 128) (s : State Ideal) (n : Fin 128) (f : Fin 256) (c : Fin 3) (q : Fin 128) :
    b25 k s (ix4 n f c q)
      = if q.val = target k then s.main_v9_2 (ix4 n f c ⟨k, hk⟩) else s.main_v9_2 (ix4 n f c q) := by
  unfold b25
  rw [update_column _ _ _ ⟨target k, target_lt k⟩ rfl rfl rfl (write_word ⟨k, hk⟩)]
  unfold b11
  rw [slice_column _ _ ⟨k, hk⟩ rfl rfl rfl (read_word ⟨k, hk⟩)]

/-- The reference's sequence of states: the affine layer, then one copying step after another. -/
def states (x : FVec Ideal S128x256x3x32 .f32) (w : FVec Ideal S32x12x3 .f32) (b : FVec Ideal S32x12 .f32) : ℕ → State Ideal
  | 0 => init x w b
  | k + 1 => step k (states x w b k)

/-- After `k` steps column `q` holds the affine layer's column `source k q`. -/
theorem states_apply (x : FVec Ideal S128x256x3x32 .f32) (w : FVec Ideal S32x12x3 .f32) (b : FVec Ideal S32x12 .f32)
    (n : Fin 128) (f : Fin 256) (c : Fin 3) : ∀ (k : ℕ) (hk : k ≤ 128) (q : Fin 128),
      (states x w b k).main_v9_2 (ix4 n f c q) = RefAffine.affine x w b n f c (sourceCol k hk q)
  | 0, _, q => RefAffine.A_main_v8_apply x w b n f c q
  | k + 1, hk, q => by
    show (step k (states x w b k)).main_v9_2 (ix4 n f c q) = _
    rw [step_main_v9_2, b25_apply k (by omega), states_apply x w b n f c k (by omega), states_apply x w b n f c k (by omega),
      sourceCol_succ k (by omega)]
    split <;> rfl

end Cert.RefLoop
-- ==== Proof.RefRun.lean ====
/-
  The reference's run: its counted loop ends with the last state of the module RefLoop's sequence.
-/
module

public import proofs.«01_k».proof.Proof.Gen.ReferenceIdeal.Run
public import proofs.«01_k».proof.Proof.RefLoop
public import Idealize.ShloMosaic.Lib.StableHlo.RunRead

@[expose] public section

set_option maxRecDepth 65536

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

/-- The contents `V` are those before step `k`: the array of the state `s`, and `k` in both counters. -/
structure AtStep (V : Valuation τ sig (Elt Ideal)) (k : ℕ) (s : State Ideal) : Prop where
  array : V (Proc.devRef .tc main_v9_2) = s.main_v9_2
  trips : V (Proc.devRef .tc main_v9_0) = constantI S_ 32 (BitVec.ofNat 32 k)
  index : V (Proc.devRef .tc main_v9_1) = constantI S_ 32 (BitVec.ofNat 32 k)

/-- A counter that holds `k` holds `k + 1` after one is added to it. -/
theorem counter_succ (k : ℕ) :
    addi (constantI S_ 32 (BitVec.ofNat 32 k)) (constantI S_ 32 1#32) = constantI S_ 32 (BitVec.ofNat 32 (k + 1)) :=
  funext fun _ => (BitVec.ofNat_add k 1).symm

/-- One trip of the loop takes the contents before step `k` to those before step `k + 1`. -/
theorem AtStep.succ {V : Valuation τ sig (Elt Ideal)} {k : ℕ} {s : State Ideal} (h : AtStep V k s) :
    AtStep (STEP V) (k + 1) (step k s) where
  array := by
    obtain ⟨y⟩ := s
    obtain ⟨ha, -, hi⟩ := h
    rw [STEP_main_v9_2]
    unfold step_main_v9_2 res_main_while0b_v17
    rw [ha, hi]
    rfl
  trips := by
    rw [STEP_main_v9_0]
    unfold step_main_v9_0
    rw [h.trips]
    exact counter_succ k
  index := by
    rw [STEP_main_v9_1]
    unfold step_main_v9_1
    rw [h.index]
    exact counter_succ k

variable (m : (ℓ : Loc nD τ sig) → Buf (Elt Ideal) ℓ) (c : Dev nD)

/-- The sequence of states over the arguments that the memory holds. -/
def statesOf : ℕ → State Ideal :=
  RefLoop.states (m (c.tc.loc main_arg0)) (m (c.tc.loc main_arg1)) (m (c.tc.loc main_arg2))

/-- The operations before the loop leave the affine layer's array and zero in both counters. -/
theorem atStep_zero : AtStep (entryContents preI m c) 0 (statesOf m c 0) := by
  constructor <;> (simp only [entryContents, afterL_cons, afterL_nil]; after_reads_simp) <;> rfl

/-- Before step `k` the contents hold state `k`. -/
theorem atStep : ∀ k, AtStep (STEP^[k] (entryContents preI m c)) k (statesOf m c k)
  | 0 => atStep_zero m c
  | k + 1 => by
    rw [Function.iterate_succ_apply']
    exact (atStep k).succ

/-- Every run of the reference ends with state 128's array as its result and its arguments unchanged. -/
theorem run_states (ρ : Dev nD → PrngReg) :
    θ_run (defs (F := Ideal)) (onTc (τ := τ) (main (F := Ideal))) ⟨m, fun _ => 0, ρ⟩ fun r => ∀ c : Dev nD,
      r.2.mem ((c.tc : Thread nD τ).loc main_v9_2) = (statesOf m c 128).main_v9_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (atStep m c 128).array, (h c).2⟩) (Value.run m ρ)

end Cert.RefRun

end
-- ==== Proof.KerBlock.lean ====
/-
  What one block of the launch computes, read at an index: a row of inputs against a column of the weight matrix, plus the
  column's bias.
-/
module

public import proofs.«01_k».proof.Proof.Gen.KernelIdeal.Value
public import Idealize.ShloMosaic.Lib.Pointwise

@[expose] public section

set_option maxRecDepth 16384

noncomputable section

namespace Cert.KerBlock

open Idealize.ShloMosaic Idealize.ShloMosaic.Pointwise
open Cert.KernelIdeal Cert.KernelIdeal.Gen

/-- The payload of the store at sample `a` of the block, feature `f`, channel `c` and position `q`. -/
theorem payload_apply (x : Vec Ideal S8192x96 .f32) (w : Vec Ideal S96x384 .f32) (b : Vec Ideal S1x384 .f32)
    (a : Fin 32) (f : Fin 256) (c : Fin 3) (q : Fin 128) :
    k0_pay1 x w b (ix4 a f c q)
      = (∑ j : Fin 96, x (ix2 ⟨a.val * 256 + f.val, by omega⟩ j) * w (ix2 j ⟨c.val * 128 + q.val, by omega⟩))
        + b (ix2 (0 : Fin 1) ⟨c.val * 128 + q.val, by omega⟩) := by
  pointwise [k0_pay1]

end Cert.KerBlock
-- ==== Proof.KerWords.lean ====
/-
  The index words that the kernel computes before its launch, from its table of source columns alone: for each output
  column, the node and the place within the node of the column that it takes, and the channel at each channel group.
-/
module

public import proofs.«01_k».proof.Proof.Columns
public import proofs.«01_k».proof.Proof.Gen.KernelIdeal
public import Idealize.ShloMosaic.Lib.Pointwise

@[expose] public section

set_option maxRecDepth 16384

noncomputable section

namespace Cert.KerWords

open Idealize.ShloMosaic Idealize.ShloMosaic.Pointwise
open Cert.KernelIdeal Cert.KernelIdeal.Gen Cert.Columns

/-- The kernel's table of source columns. -/
def tableWords : IVec S128 32 := fun i => lit0 (S128.rowMajor i)

/-- The number of columns of a node, the divisor of what follows. -/
def divisor : IVec S_ 32 := id (constantI S_ 32 4#32)

/-- A scalar spread over the columns. -/
abbrev spread {w : ℕ} (v : IVec S_ w) : IVec S128 w := broadcastInDim S128 ![] bcast_S_S128 v

/-- The node of each source column: the table divided by four, rounded down. -/
def nodeWords : IVec S128 32 :=
  select
    (andi (cmpi .ne (signi tableWords) (spread (signi divisor)))
      (cmpi .ne (Host.remsi tableWords (spread divisor)) (spread (constantI S_ 32 0#32))))
    (subi (Host.divsi tableWords (spread divisor)) (spread (constantI S_ 32 1#32)))
    (Host.divsi tableWords (spread divisor))

/-- The divisor of the remainder: four, with one in place of a zero. -/
def safeDivisor : IVec S_ 32 :=
  select (cmpi .eq divisor (constantI S_ 32 0#32)) (constantI S_ 32 1#32) divisor

/-- The remainder of the table by that divisor, with the sign of the dividend. -/
def restWords : IVec S128 32 := Host.remsi tableWords (spread safeDivisor)

/-- The place of each source column within its node: the remainder with the sign of the divisor. -/
def placeWords : IVec S128 32 :=
  select
    (andi (cmpi .ne (cmpi .slt restWords (spread (constantI S_ 32 0#32)))
        (spread (cmpi .slt safeDivisor (constantI S_ 32 0#32))))
      (cmpi .ne restWords (spread (constantI S_ 32 0#32))))
    (addi restWords (spread safeDivisor)) restWords

/-- The node words as the gathers over nodes read them: negative ones wrapped, one index per column. -/
def nodeIndex : IVec S128x1 32 :=
  broadcastInDim S128x1 ![0] bcast_S128_S128x1_0
    (select (cmpi .slt nodeWords (spread (constantI S_ 32 0#32))) (addi nodeWords (spread (constantI S_ 32 32#32))) nodeWords)

/-- The channel of each column at each channel group: four times the group plus the place. -/
def channelWords : IVec S128x3 32 :=
  addi
    (broadcastInDim S128x3 ![0, 1] bcast_S1x3_S128x3_0_1
      (muli (broadcastInDim S1x3 ![] bcast_S_S1x3 (constantI S_ 32 4#32))
        (broadcastInDim S1x3 ![1] bcast_S3_S1x3_1 (iotaInDim S3 32 0))))
    (broadcastInDim S128x3 ![0, 1] bcast_S128x1_S128x3_0_1 (broadcastInDim S128x1 ![0] bcast_S128_S128x1_0 placeWords))

/-- The source column of output column `k`: what the copying loop leaves there. -/
def src (k : Fin 128) : Fin 128 := sourceCol 128 (by omega) k

/-- THE TABLE IS THE LOOP: entry `k` of the kernel's table is the column that the 128 copying steps leave in column `k`. -/
theorem tableWords_apply : ∀ k : Fin 128, tableWords (ix1 k) = BitVec.ofNat 32 (src k).val := by decide +kernel

/-- The node word of column `k` is the source column over four. -/
theorem nodeWords_apply : ∀ k : Fin 128, nodeWords (ix1 k) = BitVec.ofNat 32 ((src k).val / 4) := by decide +kernel

/-- The place word of column `k` is the source column's remainder by four. -/
theorem placeWords_apply : ∀ k : Fin 128, placeWords (ix1 k) = BitVec.ofNat 32 ((src k).val % 4) := by decide +kernel

/-- The node that output column `k` takes. -/
def srcNode (k : Fin 128) : Fin 32 := ⟨(src k).val / 4, by have := (src k).isLt; omega⟩

/-- The channel that output column `k` takes at channel group `c`. -/
def srcChannel (c : Fin 3) (k : Fin 128) : Fin 12 := ⟨c.val * 4 + (src k).val % 4, by have := c.isLt; omega⟩

/-- The index word of the gathers over nodes is the node. -/
theorem nodeIndex_apply (k : Fin 128) : (nodeIndex (ix2 k 0)).toInt.toNat = (srcNode k).val := by
  have h : nodeIndex (ix2 k 0) = BitVec.ofNat 32 ((src k).val / 4) := by
    pointwise [nodeIndex, spread]
    rw [nodeWords_apply]
    exact (by decide +kernel : ∀ n : Fin 32,
      Scalar.select (IntOp.cmpi .slt (BitVec.ofNat 32 n.val) 0#32) (IntOp.addi (BitVec.ofNat 32 n.val) 32#32)
        (BitVec.ofNat 32 n.val) = BitVec.ofNat 32 n.val) (srcNode k)
  rw [h]
  exact (by decide +kernel : ∀ n : Fin 32, (BitVec.ofNat 32 n.val).toInt.toNat = n.val) (srcNode k)

/-- The channel word is the channel. -/
theorem channelWords_apply (k : Fin 128) (c : Fin 3) : channelWords (ix2 k c) = BitVec.ofNat 32 (srcChannel c k).val := by
  pointwise [channelWords]
  rw [placeWords_apply]
  exact (by decide +kernel : ∀ (c : Fin 3) (r : Fin 4),
    IntOp.addi (IntOp.muli 4#32 (BitVec.ofNat 32 c.val)) (BitVec.ofNat 32 r.val) = BitVec.ofNat 32 (c.val * 4 + r.val))
      c ⟨(src k).val % 4, Nat.mod_lt _ (by decide)⟩

end Cert.KerWords
-- ==== Proof.KerGather.lean ====
/-
  The kernel's four gathers, read at an element: each reads the operand at its index word, read signed and clamped.
-/
module

public import proofs.«01_k».proof.Proof.Gen.KernelIdeal
public import Idealize.ShloMosaic.Lib.Pointwise

@[expose] public section

set_option maxRecDepth 16384

noncomputable section

namespace Cert.KerGather

open Idealize.ShloMosaic Idealize.ShloMosaic.Pointwise
open Cert.KernelIdeal Cert.KernelIdeal.Gen

variable {α : Type}

/-- Gathering whole nodes of the weights: entry `k` is the node whose number the index word holds. -/
theorem gather_weights (x : S32x12x3.Idx → α) (idx : IVec S128x1 32) (k : Fin 128) (o : Fin 12) (d : Fin 3) (p : Fin 32)
    (hp : (idx (ix2 k 0)).toInt.toNat = p.val) :
    Host.gather gather_S32x12x3_S128x1_S128x12x3_12_0_n_n_0_1_1123 x idx (ix3 k o d) = x (ix3 p o d) := by
  unfold Host.gather
  refine congrArg x (funext fun a => Fin.ext ?_)
  have hl := p.isLt
  match a with
  | ⟨0, _⟩ =>
    show min (idx (GatherDims.siIdx gather_S32x12x3_S128x1_S128x12x3_12_0_n_n_0_1_1123 (ix3 k o d) ⟨0, by decide⟩)).toInt.toNat (32 - 1) + 0 + 0 = p.val
    rw [show GatherDims.siIdx gather_S32x12x3_S128x1_S128x12x3_12_0_n_n_0_1_1123 (ix3 k o d) ⟨0, by decide⟩ = ix2 k 0 from by
      funext b; match b with
      | ⟨0, _⟩ => rfl
      | ⟨1, _⟩ => rfl]
    omega
  | ⟨1, _⟩ => show 0 + 0 + o.val = o.val; omega
  | ⟨2, _⟩ => show 0 + 0 + d.val = d.val; omega

/-- Gathering whole nodes of the bias. -/
theorem gather_bias (x : S32x12.Idx → α) (idx : IVec S128x1 32) (k : Fin 128) (o : Fin 12) (p : Fin 32)
    (hp : (idx (ix2 k 0)).toInt.toNat = p.val) :
    Host.gather gather_S32x12_S128x1_S128x12_1_0_n_n_0_1_112 x idx (ix2 k o) = x (ix2 p o) := by
  unfold Host.gather
  refine congrArg x (funext fun a => Fin.ext ?_)
  have hl := p.isLt
  match a with
  | ⟨0, _⟩ =>
    show min (idx (GatherDims.siIdx gather_S32x12_S128x1_S128x12_1_0_n_n_0_1_112 (ix2 k o) ⟨0, by decide⟩)).toInt.toNat (32 - 1) + 0 + 0 = p.val
    rw [show GatherDims.siIdx gather_S32x12_S128x1_S128x12_1_0_n_n_0_1_112 (ix2 k o) ⟨0, by decide⟩ = ix2 k 0 from by
      funext b; match b with
      | ⟨0, _⟩ => rfl
      | ⟨1, _⟩ => rfl]
    omega
  | ⟨1, _⟩ => show 0 + 0 + o.val = o.val; omega

/-- Taking the channels along their axis, one index per column and channel group, from the gathered weights. -/
theorem gather_weight_channels (x : S128x12x3.Idx → α) (idx : IVec S128x3x1 32) (k : Fin 128) (c : Fin 3) (d : Fin 3) (o : Fin 12)
    (ho : (idx (ix3 k c 0)).toInt.toNat = o.val) :
    Host.gather gather_S128x12x3_S128x3x1_S128x3x3_2_1_0_0_1_2_113 x idx (ix3 k c d) = x (ix3 k o d) := by
  unfold Host.gather
  refine congrArg x (funext fun a => Fin.ext ?_)
  have hl := o.isLt
  match a with
  | ⟨0, _⟩ => show 0 + k.val + 0 = k.val; omega
  | ⟨1, _⟩ =>
    show min (idx (GatherDims.siIdx gather_S128x12x3_S128x3x1_S128x3x3_2_1_0_0_1_2_113 (ix3 k c d) ⟨0, by decide⟩)).toInt.toNat (12 - 1) + 0 + 0 = o.val
    rw [show GatherDims.siIdx gather_S128x12x3_S128x3x1_S128x3x3_2_1_0_0_1_2_113 (ix3 k c d) ⟨0, by decide⟩ = ix3 k c 0 from by
      funext b; match b with
      | ⟨0, _⟩ => rfl
      | ⟨1, _⟩ => rfl
      | ⟨2, _⟩ => rfl]
    omega
  | ⟨2, _⟩ => show 0 + 0 + d.val = d.val; omega

/-- The same of the gathered bias. -/
theorem gather_bias_channels (x : S128x12.Idx → α) (idx : IVec S128x3x1 32) (k : Fin 128) (c : Fin 3) (o : Fin 12)
    (ho : (idx (ix3 k c 0)).toInt.toNat = o.val) :
    Host.gather gather_S128x12_S128x3x1_S128x3_n_1_0_0_1_2_11 x idx (ix2 k c) = x (ix2 k o) := by
  unfold Host.gather
  refine congrArg x (funext fun a => Fin.ext ?_)
  have hl := o.isLt
  match a with
  | ⟨0, _⟩ => show 0 + k.val + 0 = k.val; omega
  | ⟨1, _⟩ =>
    show min (idx (GatherDims.siIdx gather_S128x12_S128x3x1_S128x3_n_1_0_0_1_2_11 (ix2 k c) ⟨0, by decide⟩)).toInt.toNat (12 - 1) + 0 + 0 = o.val
    rw [show GatherDims.siIdx gather_S128x12_S128x3x1_S128x3_n_1_0_0_1_2_11 (ix2 k c) ⟨0, by decide⟩ = ix3 k c 0 from by
      funext b; match b with
      | ⟨0, _⟩ => rfl
      | ⟨1, _⟩ => rfl
      | ⟨2, _⟩ => rfl]
    omega

end Cert.KerGather
-- ==== Proof.KerHost.lean ====
/-
  What the kernel's launch is handed: the input as rows of 96, the 96 by 384 matrix of weights and the row of 384 biases,
  each read at an element.
-/
module

public import proofs.«01_k».proof.Proof.KerWords
public import proofs.«01_k».proof.Proof.KerGather

@[expose] public section

set_option maxRecDepth 16384

noncomputable section

namespace Cert.KerHost

open Idealize.ShloMosaic Idealize.ShloMosaic.Pointwise
open Cert.KernelIdeal Cert.KernelIdeal.Gen Cert.KerWords

/-- The value that the kernel puts where an index is out of range. -/
def outside (t : Shape) (h : S_.BroadcastsInDim t ![]) : FVec Ideal t .f32 :=
  broadcastInDim t ![] h (constant S_ .f32 0x7FC00000#32)

/-- The channel words as an index array. -/
def channelBox : IVec S128x3x1 32 := broadcastInDim S128x3x1 ![0, 1] bcast_S128x3_S128x3x1_0_1 channelWords

/-- The index array that the weights' channels are taken at: negative words wrapped. -/
def weightIndex : IVec S128x3x1 32 :=
  select (cmpi .slt channelBox (broadcastInDim S128x3x1 ![] bcast_S_S128x3x1 (constantI S_ 32 0#32)))
    (addi channelBox (broadcastInDim S128x3x1 ![] bcast_S_S128x3x1 (constantI S_ 32 12#32))) channelBox

/-- The index array that the bias's channels are taken at: negative words wrapped, then as one index per entry. -/
def biasIndex : IVec S128x3x1 32 :=
  shapeCast S128x3x1
    (select (cmpi .slt channelWords (broadcastInDim S128x3 ![] bcast_S_S128x3 (constantI S_ 32 0#32)))
      (addi channelWords (broadcastInDim S128x3 ![] bcast_S_S128x3 (constantI S_ 32 12#32))) channelWords)
    shapeCasts_S128x3_S128x3x1

/-- Whether each index of an index array lies in the range of the channels. -/
def inRange (idx : IVec S128x3x1 32) : IVec S128x3 1 :=
  Host.reduce IntOp.andi
    (andi (cmpi .sge idx (broadcastInDim S128x3x1 ![] bcast_S_S128x3x1 (constantI S_ 32 0#32)))
      (cmpi .sle idx (broadcastInDim S128x3x1 ![0, 1, 2] bcast_S1x1x1_S128x3x1_0_1_2
        (broadcastInDim S1x1x1 ![2] bcast_S1_S1x1x1_2 (constantI S1 32 11#32)))))
    (constantI S_ 1 1#1) reducesTo_S128x3x1_S128x3_d2 h_S_

/-- The word `o` of a channel is in range, and the wrap leaves it. -/
theorem channel_word : ∀ o : Fin 12,
    Scalar.select (IntOp.cmpi .slt (BitVec.ofNat 32 o.val) 0#32) (IntOp.addi (BitVec.ofNat 32 o.val) 12#32)
      (BitVec.ofNat 32 o.val) = BitVec.ofNat 32 o.val := by decide +kernel

/-- The weights' index array holds the channels. -/
theorem weightIndex_apply (k : Fin 128) (c : Fin 3) : weightIndex (ix3 k c 0) = BitVec.ofNat 32 (srcChannel c k).val := by
  pointwise [weightIndex, channelBox]
  rw [channelWords_apply]
  exact channel_word _

/-- The bias's index array holds the channels. -/
theorem biasIndex_apply (k : Fin 128) (c : Fin 3) : biasIndex (ix3 k c 0) = BitVec.ofNat 32 (srcChannel c k).val := by
  pointwise [biasIndex]
  rw [channelWords_apply]
  exact channel_word _

/-- An index array of channels is in range everywhere. -/
theorem inRange_apply (idx : IVec S128x3x1 32) (k : Fin 128) (c : Fin 3) (o : Fin 12)
    (ho : idx (ix3 k c 0) = BitVec.ofNat 32 o.val) : inRange idx (ix2 k c) = 1#1 := by
  pointwise [inRange]
  rw [show (Finset.univ : Finset (Fin 1)) = {0} from rfl, Finset.fold_singleton, ho]
  exact (by decide +kernel : ∀ o : Fin 12,
    IntOp.andi (IntOp.andi (IntOp.cmpi .sge (BitVec.ofNat 32 o.val) 0#32) (IntOp.cmpi .sle (BitVec.ofNat 32 o.val) 11#32)) 1#1
      = 1#1) o

/-- The weights of the node and channel that each output column takes. -/
def pickedWeights (w : FVec Ideal S32x12x3 .f32) : FVec Ideal S128x3x3 .f32 :=
  select (broadcastInDim S128x3x3 ![0, 1] bcast_S128x3_S128x3x3_0_1 (inRange weightIndex))
    (Host.gather gather_S128x12x3_S128x3x1_S128x3x3_2_1_0_0_1_2_113
      (Host.gather gather_S32x12x3_S128x1_S128x12x3_12_0_n_n_0_1_1123 w nodeIndex) weightIndex)
    (outside S128x3x3 bcast_S_S128x3x3)

/-- The bias of the node and channel that each output column takes. -/
def pickedBias (b : FVec Ideal S32x12 .f32) : FVec Ideal S128x3 .f32 :=
  select (inRange biasIndex)
    (Host.gather gather_S128x12_S128x3x1_S128x3_n_1_0_0_1_2_11
      (Host.gather gather_S32x12_S128x1_S128x12_1_0_n_n_0_1_112 b nodeIndex) biasIndex)
    (outside S128x3 bcast_S_S128x3)

/-- The mark of the node that each output column takes: one there, zero at the other nodes. -/
def mark : FVec Ideal S128x32 .f32 :=
  uitofp .f32 (cmpi .eq
    (broadcastInDim S128x32 ![0, 1] bcast_S128x1_S128x32_0_1 (broadcastInDim S128x1 ![0] bcast_S128_S128x1_0 nodeWords))
    (broadcastInDim S128x32 ![0, 1] bcast_S1x32_S128x32_0_1 (broadcastInDim S1x32 ![1] bcast_S32_S1x32_1 (iotaInDim S32 32 0))))

/-- The matrix of weights that the launch is handed. -/
def weightMatrix (w : FVec Ideal S32x12x3 .f32) : FVec Ideal S96x384 .f32 :=
  shapeCast S96x384
    (transpose S3x32x3x128 [2, 3, 1, 0]
      (mulf
        (broadcastInDim S128x3x3x32 ![0, 1, 2, 3] bcast_S128x3x3x1_S128x3x3x32_0_1_2_3
          (broadcastInDim S128x3x3x1 ![0, 1, 2] bcast_S128x3x3_S128x3x3x1_0_1_2 (pickedWeights w)))
        (broadcastInDim S128x3x3x32 ![0, 1, 2, 3] bcast_S128x1x1x32_S128x3x3x32_0_1_2_3
          (broadcastInDim S128x1x1x32 ![0, 3] bcast_S128x32_S128x1x1x32_0_3 mark)))
      transposes_S128x3x3x32_S3x32x3x128_2_3_1_0)
    shapeCasts_S3x32x3x128_S96x384

/-- The row of biases that the launch is handed. -/
def biasRow (b : FVec Ideal S32x12 .f32) : FVec Ideal S1x384 .f32 :=
  shapeCast S1x384 (transpose S3x128 [1, 0] (pickedBias b) transposes_S128x3_S3x128_1_0) shapeCasts_S3x128_S1x384

/-- A picked weight is the weight of the source node and channel. -/
theorem pickedWeights_apply (w : FVec Ideal S32x12x3 .f32) (k : Fin 128) (c : Fin 3) (d : Fin 3) :
    pickedWeights w (ix3 k c d) = w (ix3 (srcNode k) (srcChannel c k) d) := by
  have h : ∀ o : Fin 12, (BitVec.ofNat 32 o.val).toInt.toNat = o.val := by decide +kernel
  pointwise [pickedWeights]
  rw [inRange_apply weightIndex k c (srcChannel c k) (weightIndex_apply k c), ValueIdx.select_one,
    KerGather.gather_weight_channels _ _ k c d (srcChannel c k) (by rw [weightIndex_apply, h]),
    KerGather.gather_weights _ _ k _ d (srcNode k) (nodeIndex_apply k)]

/-- A picked bias is the bias of the source node and channel. -/
theorem pickedBias_apply (b : FVec Ideal S32x12 .f32) (k : Fin 128) (c : Fin 3) :
    pickedBias b (ix2 k c) = b (ix2 (srcNode k) (srcChannel c k)) := by
  have h : ∀ o : Fin 12, (BitVec.ofNat 32 o.val).toInt.toNat = o.val := by decide +kernel
  pointwise [pickedBias]
  rw [inRange_apply biasIndex k c (srcChannel c k) (biasIndex_apply k c), ValueIdx.select_one,
    KerGather.gather_bias_channels _ _ k c (srcChannel c k) (by rw [biasIndex_apply, h]),
    KerGather.gather_bias _ _ k _ (srcNode k) (nodeIndex_apply k)]

/-- The mark is one at the source node and zero elsewhere. -/
theorem mark_apply (k : Fin 128) (p : Fin 32) : mark (ix2 k p) = if p = srcNode k then 1 else 0 := by
  pointwise [mark]
  rw [nodeWords_apply]
  have h : IntOp.cmpi .eq (BitVec.ofNat 32 ((src k).val / 4)) (BitVec.ofNat 32 p.val) = if p = srcNode k then 1#1 else 0#1 :=
    (by decide +kernel : ∀ n p : Fin 32,
      IntOp.cmpi .eq (BitVec.ofNat 32 n.val) (BitVec.ofNat 32 p.val) = if p = n then 1#1 else 0#1) (srcNode k) p
  rw [h]
  split
  · show (((1#1 : BitVec 1).toNat : ℝ) : EReal) = 1
    norm_num
  · show (((0#1 : BitVec 1).toNat : ℝ) : EReal) = 0
    norm_num

/-- The matrix of weights at input row `d * 32 + p` and output column `c * 128 + k`: the source weight where `p` is the
    source node, and times zero elsewhere. -/
theorem weightMatrix_apply (w : FVec Ideal S32x12x3 .f32) (d : Fin 3) (p : Fin 32) (c : Fin 3) (k : Fin 128) :
    weightMatrix w (ix2 ⟨d.val * 32 + p.val, by omega⟩ ⟨c.val * 128 + k.val, by omega⟩)
      = w (ix3 (srcNode k) (srcChannel c k) d) * (if p = srcNode k then 1 else 0) := by
  rw [← pickedWeights_apply w, ← mark_apply]
  pointwise [weightMatrix]

/-- The row of biases at output column `c * 128 + k`: the source bias. -/
theorem biasRow_apply (b : FVec Ideal S32x12 .f32) (c : Fin 3) (k : Fin 128) :
    biasRow b (ix2 0 ⟨c.val * 128 + k.val, by omega⟩) = b (ix2 (srcNode k) (srcChannel c k)) := by
  rw [← pickedBias_apply b]
  pointwise [biasRow]

/-- The input as the launch is handed it: row `n * 256 + f` holds the 96 entries of batch `n` and feature `f`. -/
def inputRows (x : FVec Ideal S128x256x3x32 .f32) : FVec Ideal S32768x96 .f32 :=
  shapeCast S32768x96 x shapeCasts_S128x256x3x32_S32768x96

/-- An entry of the input's rows. -/
theorem inputRows_apply (x : FVec Ideal S128x256x3x32 .f32) (n : Fin 128) (f : Fin 256) (d : Fin 3) (p : Fin 32) :
    inputRows x (ix2 ⟨n.val * 256 + f.val, by omega⟩ ⟨d.val * 32 + p.val, by omega⟩) = x (ix4 n f d p) := by
  pointwise [inputRows]

end Cert.KerHost
-- ==== Proof.KerEntry.lean ====
/-
  The arrays of the launch as the kernel's host operations leave them: the terms of the module KerHost over the arguments.
-/
module

public import proofs.«01_k».proof.Proof.KerHost
public import proofs.«01_k».proof.Proof.Gen.KernelIdeal.Value
public import Idealize.ShloMosaic.Lib.StableHlo.RunRead
public import Idealize.ShloMosaic.Lib.Tactic.CleanTypes

@[expose] public section

set_option maxRecDepth 16384

noncomputable section

namespace Cert.KerEntry

open Idealize.ShloMosaic Idealize.ShloMosaic.TcCoe
open Cert.KernelIdeal Cert.KernelIdeal.Gen Cert.KerHost

variable (m : (ℓ : Loc nD τ sig) → Buf (Elt Ideal) ℓ)

/-- The launch's first operand is the input in rows. -/
theorem entry_input (c : Dev nD) : V m c main_v43 = inputRows (m ((c : Thread nD τ).loc main_arg0)) := by
  unfold V
  after_reads_simp
  rfl

/-- The launch's third operand is the row of biases. -/
theorem entry_bias (c : Dev nD) : V m c main_v42 = biasRow (m ((c : Thread nD τ).loc main_arg2)) := by
  unfold V
  after_reads_simp
  simp -implicitDefEqProofs only [StableHlo.TRef.toBuf, StableHlo.TRef.ofBuf, cast_cast, cast_eq]
  clean_types
  rfl

/-- The launch's second operand is the matrix of weights. -/
theorem entry_weights (c : Dev nD) : V m c main_v40 = weightMatrix (m ((c : Thread nD τ).loc main_arg1)) := by
  unfold V
  after_reads_simp
  simp -implicitDefEqProofs only [StableHlo.TRef.toBuf, StableHlo.TRef.ofBuf, cast_cast, cast_eq]
  clean_types
  rfl

end Cert.KerEntry
-- ==== Proof.Equation.lean ====
/-
  The equation between the two programs: a row of inputs against a column of the weight matrix, plus the bias, is the
  reference's affine map at the column that the permutation sends to it.
-/
module

public import proofs.«01_k».proof.Proof.KerHost
public import proofs.«01_k».proof.Proof.RefLoop

@[expose] public section

set_option maxRecDepth 16384

noncomputable section

namespace Cert.Equation

open Idealize.ShloMosaic
open Cert.KernelIdeal Cert.Columns Cert.KerWords Cert.KerHost

/-- A sum over the columns of an input row is a sum over the input channels of sums over the nodes. -/
theorem sum_columns (g : Fin 96 → EReal) :
    ∑ j, g j = ∑ d : Fin 3, ∑ p : Fin 32, g ⟨d.val * 32 + p.val, by omega⟩ := by
  rw [← Fintype.sum_prod_type' (f := fun (d : Fin 3) (p : Fin 32) => g ⟨d.val * 32 + p.val, by omega⟩)]
  refine (Fintype.sum_equiv (finProdFinEquiv (m := 3) (n := 32)) _ _ fun j => ?_).symm
  refine congrArg g (Fin.ext ?_)
  simp only [finProdFinEquiv_apply_val]
  omega

/-- The kernel's term at sample `n`, feature `f`, channel `c` and position `k` is the reference's affine map at the column
that the permutation sends to `k`. -/
theorem row_column (x : FVec Ideal S128x256x3x32 .f32) (w : FVec Ideal S32x12x3 .f32) (b : FVec Ideal S32x12 .f32)
    (n : Fin 128) (f : Fin 256) (c : Fin 3) (k : Fin 128) :
    (∑ j : Fin 96, inputRows x (ix2 ⟨n.val * 256 + f.val, by omega⟩ j)
          * weightMatrix w (ix2 j ⟨c.val * 128 + k.val, by omega⟩))
        + biasRow b (ix2 (0 : Fin 1) ⟨c.val * 128 + k.val, by omega⟩)
      = RefAffine.affine x w b n f c (src k) := by
  rw [sum_columns, biasRow_apply]
  refine congrArg₂ (· + ·) (Finset.sum_congr rfl fun d _ => ?_) rfl
  rw [Finset.sum_eq_single (srcNode k)]
  · rw [inputRows_apply, weightMatrix_apply, if_pos rfl, mul_one]
    rfl
  · intro p _ hp
    rw [inputRows_apply, weightMatrix_apply, if_neg hp, mul_zero, mul_zero]
  · exact fun h => absurd (Finset.mem_univ _) h

end Cert.Equation
-- ==== Proof.KerArray.lean ====
/-
  What the result array holds after the launch: the blocks of the launch's points, put together.
-/
module

public import proofs.«01_k».proof.Proof.KerBlock
public import proofs.«01_k».proof.Proof.KerEntry
public import proofs.«01_k».proof.Proof.Equation
public import Idealize.ShloMosaic.Lib.Pipeline.ValueKit

@[expose] public section

set_option maxRecDepth 16384

noncomputable section

namespace Cert.KerArray

open Idealize.ShloMosaic Idealize.ShloMosaic.TcCoe Idealize.ShloMosaic.Pointwise
open Cert.KernelIdeal Cert.KernelIdeal.Gen Cert.KerHost Cert.KerWords

variable (m : (ℓ : Loc nD τ sig) → Buf (Elt Ideal) ℓ)

/-- The launch has four points. -/
theorem point_lt (t : Fin cfg0.N) : t.val < 4 := by
  have h : t.val < grid0.N := t.isLt
  rwa [N_0] at h

/-- The point's place along the axis that a block of inputs moves on. -/
theorem index_input : ∀ t : Fin cfg0.N, win0_0.index t = ![t.val, 0] :=
  (by decide +kernel : ∀ t : Fin grid0.N, win0_0.index t = ![t.val, 0])

/-- The block of weights stays in place. -/
theorem index_weights : ∀ t : Fin cfg0.N, win0_1.index t = ![0, 0] :=
  (by decide +kernel : ∀ t : Fin grid0.N, win0_1.index t = ![0, 0])

/-- The block of biases stays in place. -/
theorem index_bias : ∀ t : Fin cfg0.N, win0_2.index t = ![0, 0] :=
  (by decide +kernel : ∀ t : Fin grid0.N, win0_2.index t = ![0, 0])

/-- The point's place along the axis that a block of results moves on. -/
theorem index_result : ∀ t : Fin cfg0.N, win0_3.index t = ![t.val, 0, 0, 0] :=
  (by decide +kernel : ∀ t : Fin grid0.N, win0_3.index t = ![t.val, 0, 0, 0])

/-- The block of inputs at point `t` is its quarter of the rows. -/
theorem block_input (c : Dev nD) (t : Fin cfg0.N) (r : Fin 8192) (j : Fin 96) :
    iblk m c 0 t (ix2 r j)
      = inputRows (m ((c : Thread nD τ).loc main_arg0)) (ix2 ⟨t.val * 8192 + r.val, by have := point_lt t; omega⟩ j) := by
  rw [← KerEntry.entry_input]
  blk_simp [iblk]
  refine congrArg (V m c _) (funext fun i => Fin.ext ?_)
  fin_cases i <;> blk_simp [index_input] <;> simp

/-- The block of weights is the whole matrix. -/
theorem block_weights (c : Dev nD) (t : Fin cfg0.N) (j : Fin 96) (k : Fin 384) :
    iblk m c 1 t (ix2 j k) = weightMatrix (m ((c : Thread nD τ).loc main_arg1)) (ix2 j k) := by
  rw [← KerEntry.entry_weights]
  blk_simp [iblk]
  refine congrArg (V m c _) (funext fun i => Fin.ext ?_)
  fin_cases i <;> blk_simp [index_weights] <;> simp

/-- The block of biases is the whole row. -/
theorem block_bias (c : Dev nD) (t : Fin cfg0.N) (k : Fin 384) :
    iblk m c 2 t (ix2 (0 : Fin 1) k) = biasRow (m ((c : Thread nD τ).loc main_arg2)) (ix2 (0 : Fin 1) k) := by
  rw [← KerEntry.entry_bias]
  blk_simp [iblk]
  refine congrArg (V m c _) (funext fun i => Fin.ext ?_)
  fin_cases i <;> blk_simp [index_bias] <;> simp

/-- Point `t` writes back the samples from `32 * t` on. -/
theorem block_result (t : Fin cfg0.N) (a : Fin 32) (f : Fin 256) (e : Fin 3) (q : Fin 128) :
    ((cfg0.win 3).blk t).view.emb (ix4 a f e q)
      = ix4 ⟨t.val * 32 + a.val, by have := point_lt t; omega⟩ f e q := by
  refine funext fun i => Fin.ext ?_
  fin_cases i <;> blk_simp [index_result] <;> simp

/-- The result array after the launch is `G` when `G` holds the affine maps of the arguments at the permuted columns. -/
theorem array_eq (c : Dev nD) (G : FVec Ideal S128x256x3x128 .f32)
    (hG : ∀ n f e q, G (ix4 n f e q) = RefAffine.affine (m ((c : Thread nD τ).loc main_arg0))
      (m ((c : Thread nD τ).loc main_arg1)) (m ((c : Thread nD τ).loc main_arg2)) n f e (src q)) :
    (dats m 0 c).arrAt 3 cfg0.N = G := by
  refine (dats m 0 c).arrAt_eq_of_covers 3 _ (by decide +kernel) fun t hf y => ?_
  blk_simp
  rw [after0_3]
  frame_out
  obtain ⟨a, f, e, q, rfl⟩ : ∃ (a : Fin 32) (f : Fin 256) (e : Fin 3) (q : Fin 128), y = ix4 a f e q :=
    ⟨y 0, y 1, y 2, y 3, by funext i; fin_cases i <;> rfl⟩
  refine Eq.trans ?_ (congrArg G (block_result t a f e q)).symm
  rw [hG, KerBlock.payload_apply]
  simp only [block_input, block_weights, block_bias]
  refine Eq.trans ?_ (Equation.row_column _ _ _ ⟨t.val * 32 + a.val, by have := point_lt t; omega⟩ f e q)
  refine congrArg (· + _) (Finset.sum_congr rfl fun j _ => congrArg (fun r => inputRows _ (ix2 r j) * _) (Fin.ext ?_))
  show t.val * 8192 + (a.val * 256 + f.val) = (t.val * 32 + a.val) * 256 + f.val
  omega

end Cert.KerArray
-- ==== Proof.lean ====
/-
  The proof of `Cert.Claim`: the three frames, the kernel's rewriting at the reals, and the equation between kernel and reference.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.RefRun
public import proofs.«01_k».proof.Proof.KerArray
public import Idealize.ShloMosaic.Lib.Quiescent

@[expose] public section

set_option maxRecDepth 16384

noncomputable section

namespace Cert.Proof

open Idealize.ShloMosaic Idealize.SL.Sem

/-- Every run of the kernel as written ends with its arguments unchanged and every semaphore at zero. -/
theorem frame_kernel : Cert.quiescent_Kernel := fun m ρ _ => Cert.Kernel.Gen.frame m ρ

/-- Every run of the kernel at the reals ends with its arguments unchanged and every semaphore at zero. -/
theorem frame_kernel_ideal : Cert.quiescent_KernelIdeal := fun m ρ _ => Cert.KernelIdeal.Gen.frame m ρ

/-- Every run of the reference at the reals ends with its arguments unchanged and every semaphore at zero. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The array that the kernel leaves is the last state of the reference's loop over the same arguments. -/
theorem array_states (m : (ℓ : Loc Cert.KernelIdeal.nD Cert.KernelIdeal.τ Cert.KernelIdeal.sig) → Buf (Elt Ideal) ℓ)
    (c : Dev Cert.KernelIdeal.nD) :
    (Cert.KernelIdeal.Gen.dats m 0 c).arrAt 3 Cert.KernelIdeal.cfg0.N
      = (RefLoop.states (m (c.tc.loc Cert.KernelIdeal.main_arg0)) (m (c.tc.loc Cert.KernelIdeal.main_arg1))
          (m (c.tc.loc Cert.KernelIdeal.main_arg2)) 128).main_v9_2 :=
  KerArray.array_eq m c _ fun n f e q => RefLoop.states_apply _ _ _ n f e 128 (by omega) q

/-- At the reals the kernel and the reference, run on the same arguments, leave the same result. -/
theorem kernel_reference : Cert.algebraic_KernelIdeal_ReferenceIdeal := by
  intro m g m' g' _ hagree
  refine ⟨_, Cert.KernelIdeal.Value.run_blocks m g, ?_⟩
  refine (θ_run Cert.ReferenceIdeal.defs _ _).mono (fun _ h c => ⟨(h c).1.trans ?_, (h c).2⟩)
    (RefRun.run_states m' g')
  unfold RefRun.statesOf
  rw [(hagree c).1, (hagree c).2.1, (hagree c).2.2]
  exact (array_states m c).symm

/-- Everything that the certificate claims. -/
theorem claim : Cert.Claim :=
  ⟨Cert.Kernel.Gen.facts, Cert.KernelIdeal.Gen.facts, Cert.ReferenceIdeal.Gen.facts,
    frame_kernel, frame_kernel_ideal, frame_reference, trivial, kernel_reference⟩

end Cert.Proof

end
